-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x4096x8320 : Shape := ⟨3, ![3, 4096, 8320]⟩
abbrev S1024x8320 : Shape := ⟨2, ![1024, 8320]⟩
abbrev S1024 : Shape := ⟨1, ![1024]⟩
abbrev S1x1024 : Shape := ⟨2, ![1, 1024]⟩
abbrev S3x4096x1024 : Shape := ⟨3, ![3, 4096, 1024]⟩
abbrev S3x4096x1 : Shape := ⟨3, ![3, 4096, 1]⟩
abbrev S1x256x8320 : Shape := ⟨3, ![1, 256, 8320]⟩
abbrev S1x256x1024 : Shape := ⟨3, ![1, 256, 1024]⟩
abbrev S1x256x1 : Shape := ⟨3, ![1, 256, 1]⟩
abbrev S256x8320 : Shape := ⟨2, ![256, 8320]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S256x1024 : Shape := ⟨2, ![256, 1024]⟩

abbrev nBuf : Space → Nat
  | .hbm => 9
  | .vmem => 11
  | .smem => 0
  | _ => 0

abbrev bufTy : (tb : Table) → Fin (tcTables nBuf tb) → BufTy
  | .hbm, ⟨0, _⟩ => ⟨S3x4096x8320, .bf16⟩
  | .hbm, ⟨1, _⟩ => ⟨S1024x8320, .fp8e4m3⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S3x4096x1024, .bf16⟩
  | .hbm, ⟨7, _⟩ => ⟨S3x4096x8320, .fp8e4m3⟩
  | .hbm, ⟨8, _⟩ => ⟨S3x4096x1, .f32⟩
  | .local _ .vmem, ⟨0, _⟩ => ⟨S1x256x8320, .bf16⟩
  | .local _ .vmem, ⟨1, _⟩ => ⟨S1x256x8320, .bf16⟩
  | .local _ .vmem, ⟨2, _⟩ => ⟨S1024x8320, .fp8e4m3⟩
  | .local _ .vmem, ⟨3, _⟩ => ⟨S1x1024, .f32⟩
  | .local _ .vmem, ⟨4, _⟩ => ⟨S1x1024, .f32⟩
  | .local _ .vmem, ⟨5, _⟩ => ⟨S1x256x1024, .bf16⟩
  | .local _ .vmem, ⟨6, _⟩ => ⟨S1x256x1024, .bf16⟩
  | .local _ .vmem, ⟨7, _⟩ => ⟨S1x256x8320, .fp8e4m3⟩
  | .local _ .vmem, ⟨8, _⟩ => ⟨S1x256x8320, .fp8e4m3⟩
  | .local _ .vmem, ⟨9, _⟩ => ⟨S1x256x1, .f32⟩
  | .local _ .vmem, ⟨10, _⟩ => ⟨S1x256x1, .f32⟩
  | _, _ => ⟨S3x4096x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![3, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x8320 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x8320 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x8320 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S3x4096x8320 : Shape := ⟨3, ![3, 4096, 8320]⟩
abbrev S1024x8320 : Shape := ⟨2, ![1024, 8320]⟩
abbrev S1024 : Shape := ⟨1, ![1024]⟩
abbrev S3x4096x1024 : Shape := ⟨3, ![3, 4096, 1024]⟩
abbrev S3x4096x1 : Shape := ⟨3, ![3, 4096, 1]⟩
abbrev S3x4096 : Shape := ⟨2, ![3, 4096]⟩
abbrev S1x1x1024 : Shape := ⟨3, ![1, 1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S3x4096x8320, .bf16⟩
  | .hbm, ⟨1, _⟩ => ⟨S1024x8320, .fp8e4m3⟩
  | .hbm, ⟨2, _⟩ => ⟨S1024, .f32⟩
  | .hbm, ⟨3, _⟩ => ⟨S1024, .f32⟩
  | .hbm, ⟨4, _⟩ => ⟨S3x4096x1024, .bf16⟩
  | .hbm, ⟨5, _⟩ => ⟨S3x4096x8320, .fp8e4m3⟩
  | .hbm, ⟨6, _⟩ => ⟨S3x4096x1, .f32⟩
  | .local _ .vmem, ⟨0, _⟩ => ⟨S3x4096x8320, .bf16⟩
  | .local _ .vmem, ⟨1, _⟩ => ⟨S1024x8320, .fp8e4m3⟩
  | .local _ .vmem, ⟨2, _⟩ => ⟨S1024, .f32⟩
  | .local _ .vmem, ⟨3, _⟩ => ⟨S1024, .f32⟩
  | .local _ .vmem, ⟨4, _⟩ => ⟨S3x4096x1024, .bf16⟩
  | .local _ .vmem, ⟨5, _⟩ => ⟨S3x4096x8320, .fp8e4m3⟩
  | .local _ .vmem, ⟨6, _⟩ => ⟨S3x4096x1, .f32⟩
  | _, _ => ⟨S3x4096x8320, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S3x4096x8320 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8320 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x4096x8320 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x4096x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Exponent.lean ====
/-
  One row's exponent and scale over the extended reals, as the kernel computes them and as the reference does.

  `a` is the row's largest magnitude, `v = a · (1/448 in binary32)`. The kernel counts the powers of two at or below `v`
  (`expCount`) and writes the scale by placing the exponent in a word's exponent field (`scaleBits`); the reference takes
  the floor of the logarithm (`expLog`) and raises two to it (`scaleExp2`). The two exponents differ only where both are
  at least 128, and there both scales are infinite and both inverse scales are zero: `scale_eq`, `invScale_eq`.
-/
module

public import Idealize.ShloMosaic.Lib.Pointwise
public import Idealize.ShloMosaic.Lib.IndicatorCount
public import Mathlib.Analysis.SpecialFunctions.Log.Basic

@[expose] public section

noncomputable section

namespace Cert.Rows

open Idealize.ShloMosaic

/-! ## The scalars -/

/-- The largest magnitude of a row. -/
def amax (f : Fin 8320 → EReal) : EReal :=
  Finset.univ.fold max (⊥ : EReal) fun k => max (f k) (-(f k))

/-- The word `0x3B124925` read as binary32, the kernel's `1/448`. -/
def recip : EReal := Ideal.ofBits .f32 0x3B124925#32

/-- Power `k` of the kernel's table: the word with `max k 1` in its exponent field. -/
def power (k : Fin 256) : EReal :=
  Ideal.ofBits .f32 (IntOp.shli .vector (IntOp.maxsi (BitVec.ofNat 32 k) 1#32) 23#32)

/-- How many powers are at or below the magnitude of `v`. -/
def count (v : EReal) : BitVec 32 :=
  Finset.univ.fold IntOp.addi (0#32) fun k : Fin 256 => BitVec.setWidth 32 (BitVec.ofBool (decide (power k ≤ max v (-v))))

/-- The exponent, by counting. -/
def expCount (a : EReal) : BitVec 32 :=
  if a = 0 then 0#32 else
    Scalar.select (IntOp.ori (IntOp.cmpi .eq (count (a * recip)) 0#32) (IntOp.cmpi .eq (count (a * recip)) 256#32)) (0#32)
      (IntOp.subi (count (a * recip)) 127#32)

/-- The exponent, by the logarithm. -/
def expLog (a : EReal) : BitVec 32 :=
  if a = 0 then 0#32 else
    Scalar.select
      (IntOp.andi (BitVec.ofBool (decide (Ideal.ofBits .f32 0x00800000#32 ≤ a * recip)))
        (BitVec.ofBool (decide (a * recip < Ideal.ofBits .f32 0x7F800000#32))))
      (Ideal.fptosi 32 (Ideal.liftRound Int.floor (Ideal.div (Ideal.log (a * recip)) (Ideal.log (Ideal.ofBits .f32 0x40000000#32))) + 1))
      (0#32)

/-- Two to the exponent, by the exponent field. -/
def scaleBits (e : BitVec 32) : EReal :=
  Ideal.ofBits .f32 (IntOp.shli .vector (IntOp.addi (IntOp.minsi 128#32 (IntOp.maxsi (4294967169#32) e)) 127#32) 23#32)

/-- Two to the exponent, by the power function. -/
def scaleExp2 (e : BitVec 32) : EReal :=
  Scalar.select (IntOp.cmpi .sgt e 127#32) (Ideal.ofBits .f32 0x7F800000#32)
    (Scalar.select (IntOp.cmpi .slt e 4294967170#32) 0 (Ideal.exp2 ((e.toInt : ℝ) : EReal)))

/-! ## Words read as extended reals -/

theorem fields : ∀ n : Fin 256, ((BitVec.ofNat 32 n <<< (23#32)).extractLsb' 31 1 == 1#1) = false
    ∧ ((BitVec.ofNat 32 n <<< (23#32)).extractLsb' 23 8).toNat = n
    ∧ ((BitVec.ofNat 32 n <<< (23#32)).extractLsb' 0 23).toNat = 0 := by decide +kernel

theorem shl23 (x : BitVec 32) : IntOp.shli .vector x 23#32 = x <<< (23#32) := rfl

/-- A word with `n` in its exponent field and no fraction, `1 ≤ n ≤ 254`, is `2 ^ (n - 127)`. -/
theorem ofBits_field (n : ℕ) (h1 : 1 ≤ n) (h2 : n ≤ 254) :
    Ideal.ofBits .f32 (BitVec.ofNat 32 n <<< (23#32)) = (((2 : ℝ) ^ ((n : ℤ) - 127) : ℝ) : EReal) := by
  obtain ⟨f1, f2, f3⟩ := fields ⟨n, by omega⟩
  simp only at f1 f2 f3
  generalize BitVec.ofNat 32 n <<< (23#32) = b at f1 f2 f3
  unfold Ideal.ofBits Ideal.ieee
  simp only [Nat.reduceAdd, f1, f2, f3]
  rw [if_neg (by norm_num; omega), if_neg (by omega)]
  congr 1
  have : ((n : ℤ) - 127) = 23 + ((n : ℤ) - (2 ^ (8 - 1) - 1) - (23 : ℕ)) := by norm_num
  rw [this, zpow_add₀ (by norm_num)]
  norm_num

/-- With 255 in the field it is infinite. -/
theorem ofBits_field_top : Ideal.ofBits .f32 (255#32 <<< (23#32)) = ⊤ := by
  obtain ⟨f1, f2, f3⟩ := fields ⟨255, by omega⟩
  simp only at f1 f2 f3
  have f3' : (BitVec.extractLsb' 0 23 (255#32 <<< (23#32))).toNat = 0 := f3
  generalize 255#32 <<< (23#32) = b at f1 f2 f3'
  unfold Ideal.ofBits Ideal.ieee
  simp only [Nat.reduceAdd, f1, f2, f3']
  norm_num

/-- With 0 in the field it is zero. -/
theorem ofBits_field_zero : Ideal.ofBits .f32 (0#32 <<< (23#32)) = 0 := by
  rw [show (0#32 <<< (23#32)) = 0#32 from by decide]; exact Ideal.ofBits_zero_f32

theorem inf_eq : Ideal.ofBits .f32 0x7F800000#32 = ⊤ := by
  rw [show (0x7F800000#32 : BitVec 32) = 255#32 <<< (23#32) from by decide]; exact ofBits_field_top

theorem two_eq : Ideal.ofBits .f32 0x40000000#32 = ((2 : ℝ) : EReal) := by
  rw [show (0x40000000#32 : BitVec 32) = BitVec.ofNat 32 128 <<< (23#32) from by decide, ofBits_field 128 (by omega) (by omega)]
  norm_num

theorem tiny_eq : Ideal.ofBits .f32 0x00800000#32 = (((2 : ℝ) ^ (-126 : ℤ) : ℝ) : EReal) := by
  rw [show (0x00800000#32 : BitVec 32) = BitVec.ofNat 32 1 <<< (23#32) from by decide, ofBits_field 1 (by omega) (by omega)]
  norm_num

theorem recip_eq : ∃ r : ℝ, 0 < r ∧ recip = (r : EReal) := by
  refine ⟨9586981 / 4294967296, by norm_num, ?_⟩
  unfold recip
  simp [Ideal.ofBits, Ideal.ieee, -EReal.coe_mul]
  norm_num

/-! ## The power table -/

theorem maxsi_one : ∀ k : Fin 256, IntOp.maxsi (BitVec.ofNat 32 k) 1#32 = BitVec.ofNat 32 (max k.val 1) := by decide +kernel

theorem power_of_lt (k : Fin 256) (h : k.val < 255) : power k = (((2 : ℝ) ^ (((max k.val 1 : ℕ) : ℤ) - 127) : ℝ) : EReal) := by
  unfold power; rw [maxsi_one, shl23, ofBits_field _ (by omega) (by omega)]

theorem power_last (k : Fin 256) (h : k.val = 255) : power k = ⊤ := by
  unfold power; rw [maxsi_one, shl23, h]; exact ofBits_field_top

/-! ## Two to a word -/

theorem slt_iff (x y : BitVec 32) : x.slt y = true ↔ x.toInt < y.toInt := by simp [BitVec.slt]

theorem ofBool_eq_one (b : Bool) : (BitVec.ofBool b = 1) ↔ b = true := by cases b <;> decide

/-- The two ways of writing two to a word agree at every word. -/
theorem scaleBits_eq (e : BitVec 32) : scaleBits e = scaleExp2 e := by
  have c1 : (4294967169#32 : BitVec 32).toInt = -127 := by decide
  have c2 : (128#32 : BitVec 32).toInt = 128 := by decide
  have c3 : (4294967170#32 : BitVec 32).toInt = -126 := by decide
  have c4 : (127#32 : BitVec 32).toInt = 127 := by decide
  unfold scaleBits scaleExp2 Scalar.select
  simp only [IntOp.cmpi, ofBool_eq_one, slt_iff, IntOp.minsi, IntOp.maxsi, IntOp.addi, shl23, c1, c2, c3, c4]
  by_cases h1 : 127 < e.toInt
  · rw [if_pos h1, if_neg (by omega : ¬ e.toInt < -127)]
    rw [inf_eq]
    by_cases h2 : 128 < e.toInt
    · rw [if_pos h2]; exact ofBits_field_top
    · rw [if_neg h2]
      have : e = 128#32 := BitVec.eq_of_toInt_eq (by rw [c2]; omega)
      subst this; exact ofBits_field_top
  · rw [if_neg h1]
    by_cases h3 : e.toInt < -126
    · rw [if_pos h3]
      by_cases h4 : e.toInt < -127
      · rw [if_pos h4, if_neg (by rw [c1]; omega)]; exact ofBits_field_zero
      · have : e = 4294967169#32 := BitVec.eq_of_toInt_eq (by rw [c1]; omega)
        subst this; rw [if_neg (by decide), if_neg (by decide)]; exact ofBits_field_zero
    · rw [if_neg h3, if_neg (by omega : ¬ e.toInt < -127), if_neg (by omega)]
      obtain ⟨n, hn⟩ : ∃ n : ℕ, e.toInt + 127 = n := ⟨(e.toInt + 127).toNat, by omega⟩
      have hw : e + 127#32 = BitVec.ofNat 32 n := by
        apply BitVec.eq_of_toInt_eq
        rw [BitVec.toInt_add, c4, hn, BitVec.toInt_ofNat']
      rw [hw, ofBits_field n (by omega) (by omega), Ideal.exp2_coe]
      congr 1
      rw [show ((n : ℤ) - 127) = e.toInt by omega]
      exact (Real.rpow_intCast 2 _).symm

theorem toInt_ofInt (i : ℤ) (h : -2 ^ 31 ≤ i) (h' : i < 2 ^ 31) : (BitVec.ofInt 32 i).toInt = i := by
  rw [BitVec.toInt_ofInt]; exact Int.bmod_eq_of_le (by norm_num; omega) (by norm_num; omega)

/-- From 128 on it is infinite. -/
theorem scaleExp2_large (i : ℤ) (h : 128 ≤ i) (h' : i < 2 ^ 31) : scaleExp2 (BitVec.ofInt 32 i) = ⊤ := by
  unfold scaleExp2 Scalar.select
  rw [if_pos, inf_eq]
  simp only [IntOp.cmpi, ofBool_eq_one, slt_iff]
  rw [toInt_ofInt i (by omega) h', show (127#32 : BitVec 32).toInt = 127 by decide]; omega

/-- From −128 down it is zero. -/
theorem scaleExp2_neg_large (i : ℤ) (h : 128 ≤ i) (h' : i < 2 ^ 31) : scaleExp2 (IntOp.subi 0#32 (BitVec.ofInt 32 i)) = 0 := by
  have e : (IntOp.subi 0#32 (BitVec.ofInt 32 i)).toInt = -i := by
    unfold IntOp.subi
    rw [BitVec.toInt_sub, toInt_ofInt i (by omega) h', show (0#32 : BitVec 32).toInt = 0 by decide, zero_sub]
    exact Int.bmod_eq_of_le (by norm_num; omega) (by norm_num; omega)
  unfold scaleExp2 Scalar.select
  simp only [IntOp.cmpi, ofBool_eq_one, slt_iff, e]
  rw [show (127#32 : BitVec 32).toInt = 127 by decide, show (4294967170#32 : BitVec 32).toInt = -126 by decide,
    if_neg (by omega), if_pos (by omega)]

/-! ## The two exponents -/

theorem card_lt : ∀ m : Fin 257, ((Finset.univ : Finset (Fin 256)).filter fun k => k.val < m.val).card = m.val := by
  decide +kernel

/-- A nonnegative number is at least its negative. -/
theorem neg_le_of_nonneg (v : EReal) (h : 0 ≤ v) : -v ≤ v := by
  refine le_trans ?_ h
  rw [EReal.neg_le, neg_zero]; exact h

theorem count_eq (v : EReal) (h : 0 ≤ v) :
    count v = BitVec.ofNat 32 ((Finset.univ : Finset (Fin 256)).filter fun k => power k ≤ v).card := by
  unfold count
  rw [IndicatorCount.fold_addi_setWidth_eq_card]
  congr 3
  funext k
  rw [max_eq_left (neg_le_of_nonneg v h)]
  exact propext ((ofBool_eq_one _).trans (by simp))

/-- Below the smallest power nothing is counted. -/
theorem count_small (v : EReal) (h : 0 ≤ v) (hv : v < (((2 : ℝ) ^ (-126 : ℤ) : ℝ) : EReal)) : count v = 0#32 := by
  rw [count_eq v h, Finset.filter_false_of_mem, Finset.card_empty]
  intro k _ hk
  by_cases hl : k.val < 255
  · rw [power_of_lt k hl] at hk
    have := EReal.coe_lt_coe_iff.mp (hk.trans_lt hv)
    have := (zpow_lt_zpow_iff_right₀ (by norm_num : (1 : ℝ) < 2)).mp this
    omega
  · rw [power_last k (by omega)] at hk
    exact absurd (hk.trans_lt hv) (not_top_lt)

/-- At infinity every power is. -/
theorem count_top : count ⊤ = 256#32 := by
  rw [count_eq ⊤ le_top, Finset.filter_true_of_mem (fun _ _ => le_top)]
  simp

/-- Between `2 ^ L` and `2 ^ (L + 1)` the powers at or below are those up to `L`. -/
theorem zpow_le_iff (v : ℝ) (L : ℤ) (lo : (2 : ℝ) ^ L ≤ v) (hi : v < (2 : ℝ) ^ (L + 1)) (p : ℤ) : (2 : ℝ) ^ p ≤ v ↔ p ≤ L := by
  constructor
  · intro h
    have := (zpow_lt_zpow_iff_right₀ (by norm_num : (1 : ℝ) < 2)).mp (h.trans_lt hi)
    omega
  · intro h
    exact ((zpow_le_zpow_iff_right₀ (by norm_num : (1 : ℝ) < 2)).mpr h).trans lo

/-- At a real number from the smallest power on, the count is the logarithm's floor and 128, at most 255. -/
theorem count_real (v : ℝ) (hv : (2 : ℝ) ^ (-126 : ℤ) ≤ v)
    (L : ℤ) (lo : (2 : ℝ) ^ L ≤ v) (hi : v < (2 : ℝ) ^ (L + 1)) :
    count (v : EReal) = BitVec.ofInt 32 (min 255 (L + 128)) := by
  have h0 : 0 < v := lt_of_lt_of_le (by positivity) hv
  have hL : -126 ≤ L := (zpow_le_iff v L lo hi _).mp hv
  obtain ⟨n, hn⟩ : ∃ n : ℕ, min 255 (L + 128) = n := ⟨(min 255 (L + 128)).toNat, by omega⟩
  rw [count_eq _ (EReal.coe_nonneg.mpr h0.le), hn]
  have : ((Finset.univ : Finset (Fin 256)).filter fun k => power k ≤ (v : EReal))
      = (Finset.univ : Finset (Fin 256)).filter fun k => k.val < n := by
    apply Finset.filter_congr
    intro k _
    by_cases hl : k.val < 255
    · rw [power_of_lt k hl, EReal.coe_le_coe_iff]
      rw [zpow_le_iff v L lo hi]; omega
    · rw [power_last k (by omega), top_le_iff]
      constructor
      · intro h; exact absurd h (EReal.coe_ne_top v)
      · intro h; omega
  rw [this, card_lt ⟨n, by omega⟩]
  exact (BitVec.ofInt_natCast 32 n).symm

/-- The exponent by counting, at a real number from the smallest power on. -/
theorem expCount_real (a : EReal) (ha : a ≠ 0) (v : ℝ) (hav : a * recip = (v : EReal)) (hv : (2 : ℝ) ^ (-126 : ℤ) ≤ v)
    (L : ℤ) (lo : (2 : ℝ) ^ L ≤ v) (hi : v < (2 : ℝ) ^ (L + 1)) :
    expCount a = BitVec.ofInt 32 (min 128 (L + 1)) := by
  have h0 : 0 < v := lt_of_lt_of_le (by positivity) hv
  have hL : -126 ≤ L := (zpow_le_iff v L lo hi _).mp hv
  unfold expCount
  rw [if_neg ha, hav, count_real v hv L lo hi]
  obtain ⟨n, hn⟩ : ∃ n : ℕ, min 255 (L + 128) = n := ⟨(min 255 (L + 128)).toNat, by omega⟩
  have hm : min 128 (L + 1) = (n : ℤ) - 127 := by omega
  rw [hn, hm]
  have t : (BitVec.ofInt 32 (n : ℤ)).toInt = n := toInt_ofInt _ (by omega) (by omega)
  have n0 : BitVec.ofInt 32 (n : ℤ) ≠ 0#32 := fun h => by
    rw [h, show (0#32 : BitVec 32).toInt = 0 by decide] at t; omega
  have n1 : BitVec.ofInt 32 (n : ℤ) ≠ 256#32 := fun h => by
    rw [h, show (256#32 : BitVec 32).toInt = 256 by decide] at t; omega
  have c : IntOp.ori (IntOp.cmpi .eq (BitVec.ofInt 32 (n : ℤ)) 0#32) (IntOp.cmpi .eq (BitVec.ofInt 32 (n : ℤ)) 256#32) = 0#1 := by
    unfold IntOp.ori IntOp.cmpi
    simp only [beq_eq_false_iff_ne.mpr n0, beq_eq_false_iff_ne.mpr n1]
    decide
  unfold Scalar.select
  rw [c, if_neg (by decide)]
  apply BitVec.eq_of_toInt_eq
  unfold IntOp.subi
  rw [BitVec.toInt_sub, t, toInt_ofInt _ (by omega) (by omega), show (127#32 : BitVec 32).toInt = 127 by decide]
  exact Int.bmod_eq_of_le (by norm_num; omega) (by norm_num; omega)

/-- The exponent by the logarithm, at a real number from the smallest power on. -/
theorem expLog_real (a : EReal) (ha : a ≠ 0) (v : ℝ) (hav : a * recip = (v : EReal)) (hv : (2 : ℝ) ^ (-126 : ℤ) ≤ v)
    (L : ℤ) (lo : (2 : ℝ) ^ L ≤ v) (hi : v < (2 : ℝ) ^ (L + 1)) :
    expLog a = BitVec.ofInt 32 (max (-2147483648) (min 2147483647 (L + 1))) := by
  have h0 : 0 < v := lt_of_lt_of_le (by positivity) hv
  have hf : ⌊Real.log v * (Real.log 2)⁻¹⌋ = L := by
    have hp : 0 < Real.log 2 := Real.log_pos (by norm_num)
    have lo' := Real.log_le_log (by positivity) lo
    have hi' := Real.log_lt_log h0 hi
    rw [Real.log_zpow] at lo' hi'
    rw [← div_eq_mul_inv, Int.floor_eq_iff, le_div_iff₀ hp, div_lt_iff₀ hp]
    exact ⟨lo', by push_cast at hi'; exact hi'⟩
  unfold expLog
  rw [if_neg ha, hav, tiny_eq, inf_eq, two_eq, Ideal.log_coe, Ideal.log_coe, if_neg (by linarith), if_neg (by norm_num)]
  have hl2 : Real.log 2 ≠ 0 := (Real.log_pos (by norm_num)).ne'
  have c : IntOp.andi (BitVec.ofBool (decide ((((2 : ℝ) ^ (-126 : ℤ) : ℝ) : EReal) ≤ (v : EReal)))) (BitVec.ofBool (decide ((v : EReal) < ⊤))) = 1 := by
    rw [decide_eq_true (EReal.coe_le_coe_iff.mpr hv), decide_eq_true (EReal.coe_lt_top v)]; rfl
  unfold Scalar.select
  rw [if_pos c]
  unfold Ideal.div
  rw [if_neg (by exact_mod_cast hl2), ← EReal.coe_inv, ← EReal.coe_mul, Ideal.liftRound_coe, hf, ← EReal.coe_one, ← EReal.coe_add]
  unfold Ideal.fptosi
  congr 1
  have hs : (((L : ℤ) : ℝ) + 1) = ((L + 1 : ℤ) : ℝ) := by push_cast; rfl
  rw [hs]
  show max _ (min _ (if 0 ≤ ((L + 1 : ℤ) : ℝ) then ⌊((L + 1 : ℤ) : ℝ)⌋ else ⌈((L + 1 : ℤ) : ℝ)⌉)) = _
  rw [Int.floor_intCast, Int.ceil_intCast, ite_self]
  norm_num

/-- Off the range of the table both exponents are zero. -/
theorem exps_zero (a : EReal) (ha : a = 0 ∨ (0 ≤ a * recip ∧ (a * recip < (((2 : ℝ) ^ (-126 : ℤ) : ℝ) : EReal) ∨ a * recip = ⊤))) :
    expCount a = 0#32 ∧ expLog a = 0#32 := by
  by_cases h0 : a = 0
  · constructor
    · unfold expCount; rw [if_pos h0]
    · unfold expLog; rw [if_pos h0]
  rcases ha with ha | ⟨hn, ha⟩
  · exact absurd ha h0
  constructor
  · unfold expCount
    rw [if_neg h0]
    rcases ha with ha | ha
    · rw [count_small _ hn ha]; decide
    · rw [ha, count_top]; decide
  · unfold expLog
    rw [if_neg h0, tiny_eq, inf_eq]
    unfold Scalar.select
    rw [if_neg]
    rcases ha with ha | ha
    · rw [decide_eq_false (not_le.mpr ha)]
      cases decide (a * recip < ⊤) <;> decide
    · rw [ha, decide_eq_false (lt_irrefl _)]
      cases decide ((((2 : ℝ) ^ (-126 : ℤ) : ℝ) : EReal) ≤ ⊤) <;> decide

/-- The two exponents are equal, or both at least 128. -/
theorem exps (a : EReal) (ha : 0 ≤ a) :
    expCount a = expLog a ∨ (∃ i j : ℤ, 128 ≤ i ∧ i < 2 ^ 31 ∧ 128 ≤ j ∧ j < 2 ^ 31
      ∧ expCount a = BitVec.ofInt 32 i ∧ expLog a = BitVec.ofInt 32 j) := by
  obtain ⟨c, hc, hr⟩ := recip_eq
  have hn : 0 ≤ a * recip := by rw [hr]; exact mul_nonneg ha (EReal.coe_nonneg.mpr hc.le)
  by_cases h0 : a = 0
  · obtain ⟨h1, h2⟩ := exps_zero a (.inl h0); exact .inl (h1.trans h2.symm)
  by_cases hs : a * recip < (((2 : ℝ) ^ (-126 : ℤ) : ℝ) : EReal)
  · obtain ⟨h1, h2⟩ := exps_zero a (.inr ⟨hn, .inl hs⟩); exact .inl (h1.trans h2.symm)
  by_cases ht : a * recip = ⊤
  · obtain ⟨h1, h2⟩ := exps_zero a (.inr ⟨hn, .inr ht⟩); exact .inl (h1.trans h2.symm)
  have hb : a * recip ≠ ⊥ := fun h => by rw [h] at hn; exact absurd hn (by simp)
  obtain ⟨v, hv⟩ : ∃ v : ℝ, a * recip = (v : EReal) := ⟨(a * recip).toReal, (EReal.coe_toReal ht hb).symm⟩
  have hv' : (2 : ℝ) ^ (-126 : ℤ) ≤ v := by
    rw [hv] at hs; exact EReal.coe_le_coe_iff.mp (not_lt.mp hs)
  have p0 : 0 < v := lt_of_lt_of_le (by positivity) hv'
  obtain ⟨L, lo, hi⟩ := exists_mem_Ico_zpow p0 (by norm_num : (1 : ℝ) < 2)
  have hL : -126 ≤ L := (zpow_le_iff v L lo hi _).mp hv'
  rw [expCount_real a h0 v hv hv' L lo hi, expLog_real a h0 v hv hv' L lo hi]
  by_cases hl : L + 1 ≤ 128
  · left; congr 1; omega
  · right
    exact ⟨_, _, by omega, by omega, by omega, by omega, rfl, rfl⟩

/-- The scales agree. -/
theorem scale_eq (a : EReal) (ha : 0 ≤ a) : scaleBits (expCount a) = scaleExp2 (expLog a) := by
  rw [scaleBits_eq]
  rcases exps a ha with h | ⟨i, j, hi, hi', hj, hj', h1, h2⟩
  · rw [h]
  · rw [h1, h2, scaleExp2_large i hi hi', scaleExp2_large j hj hj']

/-- The inverse scales agree. -/
theorem invScale_eq (a : EReal) (ha : 0 ≤ a) : scaleBits (IntOp.subi 0#32 (expCount a)) = scaleExp2 (IntOp.subi 0#32 (expLog a)) := by
  rw [scaleBits_eq]
  rcases exps a ha with h | ⟨i, j, hi, hi', hj, hj', h1, h2⟩
  · rw [h]
  · rw [h1, h2, scaleExp2_neg_large i hi hi', scaleExp2_neg_large j hj hj']

/-- A row's largest magnitude is not negative. -/
theorem amax_nonneg (f : Fin 8320 → EReal) : 0 ≤ amax f := by
  have h : max (f 0) (-(f 0)) ≤ amax f := by
    unfold amax
    exact (Finset.le_fold_max _).mpr (.inr ⟨0, Finset.mem_univ _, le_rfl⟩)
  refine le_trans ?_ h
  rcases le_total 0 (f 0) with h0 | h0
  · exact le_max_of_le_left h0
  · exact le_max_of_le_right (by rw [EReal.le_neg, neg_zero]; exact h0)

end Cert.Rows

end
-- ==== Proof.KernelBlock.lean ====
/-
  One block of the kernel over the extended reals, read at an index: the exponent of a row, the scale, the codes and the
  results, each in terms of the block's elements.
-/
module

public import proofs.«01_k».proof.Proof.Gen.KernelIdeal.Frame
public import proofs.«01_k».proof.Proof.Exponent
public import Idealize.ShloMosaic.Lib.Pipeline.Value

@[expose] public section

set_option maxRecDepth 16384

noncomputable section

namespace Cert.KernelIdeal.Block

open Cert.KernelIdeal Cert.KernelIdeal.Gen Cert.Rows Idealize.ShloMosaic

theorem negInf : Ideal.ofBits .bf16 65408#16 = ⊥ := by
  simp [Ideal.ofBits, Ideal.ieee]

/-- Row `r`'s exponent is the counted one of the row's largest magnitude. -/
theorem exp_apply (x0 : Vec Ideal S1x256x8320 .bf16) (r : Fin 256) :
    k0_pay3 x0 (ix2 r 0) = expCount (amax fun k => x0 (ix3 0 r k)) := by
  pointwise [k0_pay3, k0_pay2]
  rw [negInf]
  rfl

/-- The scale of row `r`. -/
theorem scale_apply (x0 : Vec Ideal S1x256x8320 .bf16) (r : Fin 256) :
    k0_pay5 (F := Ideal) (k0_pay4 x0) 23#32 (ix2 r 0) = scaleBits (expCount (amax fun k => x0 (ix3 0 r k))) := by
  pointwise [k0_pay5, k0_pay4]
  rw [exp_apply]
  rfl

/-- The code at row `r`, column `k`. -/
theorem code_apply (x0 : Vec Ideal S1x256x8320 .bf16) (r : Fin 256) (k : Fin 8320) :
    k0_pay6 (k0_pay2 x0) (k0_pay3 x0) (ix2 r k)
      = min (Ideal.ofBits .f32 0x43E00000#32) (max (Ideal.ofBits .f32 0xC3E00000#32)
          (x0 (ix3 0 r k) * scaleBits (IntOp.subi 0#32 (expCount (amax fun k => x0 (ix3 0 r k)))))) := by
  pointwise [k0_pay6, k0_pay2]
  rw [exp_apply]
  rfl

/-- The scales' block. -/
theorem out6_apply (x0 : Vec Ideal S1x256x8320 .bf16) (x1 : Vec Ideal S1024x8320 .fp8e4m3) (x2 x3 : Vec Ideal S1x1024 .f32) (r : Fin 256) :
    out0_6 x0 x1 x2 x3 (ix3 0 r 0) = scaleBits (expCount (amax fun k => x0 (ix3 0 r k))) := by
  unfold out0_6 k0_pay12
  rw [View.canon_unit_zero (funext fun a => by fin_cases a <;> rfl),
    View.ld_unit_zero (S := S1x256x8320) (funext fun a => by fin_cases a <;> rfl) _ x0]
  pointwise [k0_pay8]
  exact scale_apply x0 r

/-- The codes' block. -/
theorem out5_apply (x0 : Vec Ideal S1x256x8320 .bf16) (x1 : Vec Ideal S1024x8320 .fp8e4m3) (x2 x3 : Vec Ideal S1x1024 .f32) (r : Fin 256) (k : Fin 8320) :
    out0_5 x0 x1 x2 x3 (ix3 0 r k)
      = min (Ideal.ofBits .f32 0x43E00000#32) (max (Ideal.ofBits .f32 0xC3E00000#32)
          (x0 (ix3 0 r k) * scaleBits (IntOp.subi 0#32 (expCount (amax fun k => x0 (ix3 0 r k)))))) := by
  unfold out0_5 k0_pay10 k0_pay11
  rw [View.canon_unit_zero (funext fun a => by fin_cases a <;> rfl),
    View.ld_unit_zero (S := S1x256x8320) (funext fun a => by fin_cases a <;> rfl) _ x0]
  pointwise [k0_pay7]
  exact code_apply x0 r k

/-- The results' block. -/
theorem out4_apply (x0 : Vec Ideal S1x256x8320 .bf16) (x1 : Vec Ideal S1024x8320 .fp8e4m3) (x2 x3 : Vec Ideal S1x1024 .f32) (r : Fin 256) (n : Fin 1024) :
    out0_4 x0 x1 x2 x3 (ix3 0 r n)
      = (∑ k : Fin 8320, min (Ideal.ofBits .f32 0x43E00000#32) (max (Ideal.ofBits .f32 0xC3E00000#32)
          (x0 (ix3 0 r k) * scaleBits (IntOp.subi 0#32 (expCount (amax fun k => x0 (ix3 0 r k)))))) * x1 (ix2 n k))
        * scaleBits (expCount (amax fun k => x0 (ix3 0 r k))) * x2 (ix2 0 n) + x3 (ix2 0 n) := by
  unfold out0_4 k0_pay10 k0_pay11 k0_pay12
  rw [View.canon_unit_zero (funext fun a => by fin_cases a <;> rfl),
    View.ld_unit_zero (S := S1x256x8320) (funext fun a => by fin_cases a <;> rfl) _ x0,
    View.ld_unit_zero (S := S1024x8320) (funext fun a => by fin_cases a <;> rfl) _ x1,
    View.ld_unit_zero (S := S1x1024) (funext fun a => by fin_cases a <;> rfl) _ x2,
    View.ld_unit_zero (S := S1x1024) (funext fun a => by fin_cases a <;> rfl) _ x3]
  pointwise [k0_pay1, k0_pay9]
  rw [scale_apply]
  simp only [code_apply]

end Cert.KernelIdeal.Block

end
-- ==== Proof.RefValue.lean ====
/-
  The reference's run: each of its three result arrays after the run is one function of the argument arrays.
  The reference has one grid point and every window's block is its whole array, so what the body leaves in an output
  block is what the array ends holding: `G4` (the bf16 results), `G5` (the codes), `G6` (the scales).
-/
module

public import proofs.«01_k».proof.Proof.Gen.ReferenceIdeal.Frame
public import Idealize.ShloMosaic.Lib.Pipeline.Value

@[expose] public section

noncomputable section

namespace Cert.ReferenceIdeal.Closed

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## What the run leaves -/

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_2) = (dats m 0 c).arrAt 6 cfg0.N :=
  (h c).1 6

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S3x4096x8320.Idx) : ((cfg0.win 0).blk t).view.emb j = j := by
  obtain ⟨e0, e1, e2⟩ := idx_zero0 t
  funext a; apply Fin.ext
  match a with
  | ⟨0, _⟩ => show win0_0.index t (0 : Fin 3) * 3 + 1 * (j 0).val = (j 0).val; omega
  | ⟨1, _⟩ => show win0_0.index t (1 : Fin 3) * 4096 + 1 * (j 1).val = (j 1).val; omega
  | ⟨2, _⟩ => show win0_0.index t (2 : Fin 3) * 8320 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S1024x8320.Idx) : ((cfg0.win 1).blk t).view.emb j = j := by
  obtain ⟨e0, e1⟩ := idx_zero1 t
  funext a; apply Fin.ext
  match a with
  | ⟨0, _⟩ => show win0_1.index t (0 : Fin 2) * 1024 + 1 * (j 0).val = (j 0).val; omega
  | ⟨1, _⟩ => show win0_1.index t (1 : Fin 2) * 8320 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0] : Fin 1 → Nat) = fun _ => 0 := funext fun a => by fin_cases a <;> rfl

/-- Window 2's block index at the one point is zero on every axis. -/
theorem idx_zero2 : ∀ t : Fin cfg0.N, win0_2.index t (0 : Fin 1) = 0 :=
  (by decide +kernel : ∀ t : Fin grid0.N, _)

/-- An index of window 2's block is the same index of its array. -/
theorem emb2 (t : Fin cfg0.N) (j : S1024.Idx) : ((cfg0.win 2).blk t).view.emb j = j := by
  have e0 := idx_zero2 t
  funext a; apply Fin.ext
  match a with
  | ⟨0, _⟩ => show win0_2.index t (0 : Fin 1) * 1024 + 1 * (j 0).val = (j 0).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0] : Fin 1 → Nat) = fun _ => 0 := funext fun a => by fin_cases a <;> rfl

/-- Window 3's block index at the one point is zero on every axis. -/
theorem idx_zero3 : ∀ t : Fin cfg0.N, win0_3.index t (0 : Fin 1) = 0 :=
  (by decide +kernel : ∀ t : Fin grid0.N, _)

/-- An index of window 3's block is the same index of its array. -/
theorem emb3 (t : Fin cfg0.N) (j : S1024.Idx) : ((cfg0.win 3).blk t).view.emb j = j := by
  have e0 := idx_zero3 t
  funext a; apply Fin.ext
  match a with
  | ⟨0, _⟩ => show win0_3.index t (0 : Fin 1) * 1024 + 1 * (j 0).val = (j 0).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0, 0] : Fin 3 → Nat) = fun _ => 0 := funext fun a => by fin_cases a <;> rfl

/-- Window 4's block index at the one point is zero on every axis. -/
theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S3x4096x1024.Idx) : ((cfg0.win 4).blk t).view.emb j = j := by
  obtain ⟨e0, e1, e2⟩ := idx_zero4 t
  funext a; apply Fin.ext
  match a with
  | ⟨0, _⟩ => show win0_4.index t (0 : Fin 3) * 3 + 1 * (j 0).val = (j 0).val; omega
  | ⟨1, _⟩ => show win0_4.index t (1 : Fin 3) * 4096 + 1 * (j 1).val = (j 1).val; omega
  | ⟨2, _⟩ => show win0_4.index t (2 : Fin 3) * 1024 + 1 * (j 2).val = (j 2).val; omega

theorem hz5 : (![0, 0, 0] : Fin 3 → Nat) = fun _ => 0 := funext fun a => by fin_cases a <;> rfl

/-- Window 5's block index at the one point is zero on every axis. -/
theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S3x4096x8320.Idx) : ((cfg0.win 5).blk t).view.emb j = j := by
  obtain ⟨e0, e1, e2⟩ := idx_zero5 t
  funext a; apply Fin.ext
  match a with
  | ⟨0, _⟩ => show win0_5.index t (0 : Fin 3) * 3 + 1 * (j 0).val = (j 0).val; omega
  | ⟨1, _⟩ => show win0_5.index t (1 : Fin 3) * 4096 + 1 * (j 1).val = (j 1).val; omega
  | ⟨2, _⟩ => show win0_5.index t (2 : Fin 3) * 8320 + 1 * (j 2).val = (j 2).val; omega

theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S3x4096x1.Idx) : ((cfg0.win 6).blk t).view.emb j = j := by
  obtain ⟨e0, e1, e2⟩ := idx_zero6 t
  funext a; apply Fin.ext
  match a with
  | ⟨0, _⟩ => show win0_6.index t (0 : Fin 3) * 3 + 1 * (j 0).val = (j 0).val; omega
  | ⟨1, _⟩ => show win0_6.index t (1 : Fin 3) * 4096 + 1 * (j 1).val = (j 1).val; omega
  | ⟨2, _⟩ => show win0_6.index t (2 : Fin 3) * 1 + 1 * (j 2).val = (j 2).val; omega

/-! ### Output window 4: the array after the run -/

/-- What the window's array ends holding: `out0_4` applied to the argument arrays in place of the input blocks (a value that the
    frame states apart, `kK_payN a…`, keeps its loads inside its own definition). -/
abbrev G4 (a0 : Vec F S3x4096x8320 .bf16) (a1 : Vec F S1024x8320 .fp8e4m3) (a2 : Vec F S1024 .f32) (a3 : Vec F S1024 .f32) : Vec F S3x4096x1024 .bf16 :=
  k0_pay2 (k0_pay9 a0 a1 a2 a3) (k0_pay10 a0 a1 a2 a3) (k0_pay11 a0 a1 a2 a3) (k0_pay12 a0 a1 a2 a3) (k0_pay13 a0 a1 a2 a3) a1 a2 a3

/-- A load of the whole of a block reads the block, and the one store through the whole rectangle leaves its payload. -/
theorem out4_eq (a0 : Vec F S3x4096x8320 .bf16) (a1 : Vec F S1024x8320 .fp8e4m3) (a2 : Vec F S1024 .f32) (a3 : Vec F S1024 .f32) : out0_4 (F := F) a0 a1 a2 a3 = G4 a0 a1 a2 a3 := by
  unfold out0_4
  rw [View.canon_unit_zero hz4, View.ld_unit_zero (S := S1024x8320) hz1 _ a1, View.ld_unit_zero (S := S1024) hz2 _ a2, View.ld_unit_zero (S := S1024) hz3 _ a3]

/-- Cutting the point's block out of `X` and reading `X` through the block's view give the same. -/
theorem cut4_eq (t : Fin cfg0.N) (X : Vec F S3x4096x1024 .bf16) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2) (V m c main_arg3)) := by
  show (cfg0.win 4).cut (grid0.coords t) ((dats m 0 c).after 4 t) = _
  rw [after0_4, out4_eq, iblk0_eq, iblk1_eq, iblk2_eq, iblk3_eq]
  exact cut4_eq t _

/-- Every index of the array is in the point's block. -/
theorem covered4 (i : S3x4096x1024.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) (m ((c : Thread nD τ).loc main_arg3)) :=
  ((dats m 0 c).arrAt_eq_of_cover 4 (G4 (V m c main_arg0) (V m c main_arg1) (V m c main_arg2) (V m c main_arg3)) (fun t _ => flushed4_eq m c t) covered4).trans (by rw [V_main_arg0, V_main_arg1, V_main_arg2, V_main_arg3])

/-! ### Output window 5: the array after the run -/

/-- What the window's array ends holding: `out0_5` applied to the argument arrays in place of the input blocks (a value that the
    frame states apart, `kK_payN a…`, keeps its loads inside its own definition). -/
abbrev G5 (a0 : Vec F S3x4096x8320 .bf16) (a1 : Vec F S1024x8320 .fp8e4m3) (a2 : Vec F S1024 .f32) (a3 : Vec F S1024 .f32) : Vec F S3x4096x8320 .fp8e4m3 :=
  k0_pay1 (k0_pay9 a0 a1 a2 a3) (k0_pay11 a0 a1 a2 a3) (k0_pay12 a0 a1 a2 a3) (k0_pay13 a0 a1 a2 a3)

/-- The one store through the whole rectangle leaves its payload. -/
theorem out5_eq (a0 : Vec F S3x4096x8320 .bf16) (a1 : Vec F S1024x8320 .fp8e4m3) (a2 : Vec F S1024 .f32) (a3 : Vec F S1024 .f32) : out0_5 (F := F) a0 a1 a2 a3 = G5 a0 a1 a2 a3 := by
  unfold out0_5
  rw [View.canon_unit_zero hz5]

/-- Cutting the point's block out of `X` and reading `X` through the block's view give the same. -/
theorem cut5_eq (t : Fin cfg0.N) (X : Vec F S3x4096x8320 .fp8e4m3) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2) (V m c main_arg3)) := by
  show (cfg0.win 5).cut (grid0.coords t) ((dats m 0 c).after 5 t) = _
  rw [after0_5, out5_eq, iblk0_eq, iblk1_eq, iblk2_eq, iblk3_eq]
  exact cut5_eq t _

/-- Every index of the array is in the point's block. -/
theorem covered5 (i : S3x4096x8320.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) :=
  ((dats m 0 c).arrAt_eq_of_cover 5 (G5 (V m c main_arg0) (V m c main_arg1) (V m c main_arg2) (V m c main_arg3)) (fun t _ => flushed5_eq m c t) covered5).trans (by rw [V_main_arg0, V_main_arg1, V_main_arg2, V_main_arg3])

/-! ### Output window 6: the array after the run -/

/-- What the window's array ends holding: `out0_6` applied to the argument arrays in place of the input blocks (a value that the
    frame states apart, `kK_payN a…`, keeps its loads inside its own definition). -/
abbrev G6 (a0 : Vec F S3x4096x8320 .bf16) (a1 : Vec F S1024x8320 .fp8e4m3) (a2 : Vec F S1024 .f32) (a3 : Vec F S1024 .f32) : Vec F S3x4096x1 .f32 :=
  k0_pay10 a0 a1 a2 a3

/-- The one store through the whole rectangle leaves its payload. -/
theorem out6_eq (a0 : Vec F S3x4096x8320 .bf16) (a1 : Vec F S1024x8320 .fp8e4m3) (a2 : Vec F S1024 .f32) (a3 : Vec F S1024 .f32) : out0_6 (F := F) a0 a1 a2 a3 = G6 a0 a1 a2 a3 := by
  unfold out0_6
  rw [View.canon_unit_zero hz6]

/-- Cutting the point's block out of `X` and reading `X` through the block's view give the same. -/
theorem cut6_eq (t : Fin cfg0.N) (X : Vec F S3x4096x1 .f32) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3)) := by
  show (cfg0.win 6).cut (grid0.coords t) ((dats m 0 c).after 6 t) = _
  rw [after0_6, out6_eq, iblk0_eq, iblk1_eq, iblk2_eq, iblk3_eq]
  exact cut6_eq t _

/-- Every index of the array is in the point's block. -/
theorem covered6 (i : S3x4096x1.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) :=
  ((dats m 0 c).arrAt_eq_of_cover 6 (G6 (V m c main_arg0) (V m c main_arg1) (V m c main_arg2) (V m c main_arg3)) (fun t _ => flushed6_eq m c t) covered6).trans (by rw [V_main_arg0, V_main_arg1, V_main_arg2, V_main_arg3])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G4 (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = G5 (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = G6 (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post4 m r h c).trans (final4 m c),
      (post5 m r h c).trans (final5 m c),
      (post6 m r h c).trans (final6 m c),
      kept_main_arg0 m r h c,
      kept_main_arg1 m r h c,
      kept_main_arg2 m r h c,
      kept_main_arg3 m r h c⟩)
    (run_main m ρ)

end Cert.ReferenceIdeal.Closed

end
-- ==== Proof.RefRead.lean ====
/-
  The reference's three results over the extended reals, read at an index.
-/
module

public import proofs.«01_k».proof.Proof.RefValue
public import proofs.«01_k».proof.Proof.Exponent

@[expose] public section

set_option maxRecDepth 16384

noncomputable section

namespace Cert.ReferenceIdeal.Closed

open Cert.ReferenceIdeal Cert.ReferenceIdeal.Gen Cert.Rows Idealize.ShloMosaic

theorem negInf : Ideal.ofBits .f32 4286578688#32 = ⊥ := by
  simp [Ideal.ofBits, Ideal.ieee]

/-- A maximum over the last axis, read at an index. -/
theorem max_apply (v : FVec Ideal S3x4096x8320 .f32) (b : Fin 3) (s : Fin 4096) :
    multiReduction .maximumf [2] S3x4096 v 0xFF800000#32 reduces_S3x4096x8320_S3x4096 (.inl rfl) rfl (ix2 b s)
      = Finset.univ.fold max ⊥ fun k : Fin 8320 => v (ix3 b s k) := by
  pointwise []
  rw [negInf]

/-- A unit axis added, read at an index. -/
theorem cast_apply (v : FVec Ideal S3x4096 .f32) (b : Fin 3) (s : Fin 4096) :
    shapeCast S3x4096x1 v shapeCasts_S3x4096_S3x4096x1 (ix3 b s 0) = v (ix2 b s) := by
  pointwise []

/-- The row maxima the reference takes, with a unit axis. -/
def rowMax (x0 : Vec Ideal S3x4096x8320 .bf16) : FVec Ideal S3x4096x1 .f32 :=
  shapeCast S3x4096x1 (multiReduction .maximumf [2] S3x4096 (absf (k0_pay3 x0)) 0xFF800000#32 reduces_S3x4096x8320_S3x4096 (.inl rfl) rfl)
    shapeCasts_S3x4096_S3x4096x1

theorem rowMax_apply (x0 : Vec Ideal S3x4096x8320 .bf16) (b : Fin 3) (s : Fin 4096) :
    rowMax x0 (ix3 b s 0) = amax fun k => x0 (ix3 b s k) := by
  unfold rowMax
  rw [cast_apply, max_apply]
  rfl

/-- The exponents from the row maxima. -/
theorem exp_of_rowMax (v4 : FVec Ideal S3x4096x1 .f32) (j : S3x4096x1.Idx) :
    select (cmpf .oeq v4 (broadcast S3x4096x1 (Scalar.ofBits .f32 0x00000000#32))) (broadcast S3x4096x1 0#32)
      (select (andi (cmpf .oge (mulf v4 (broadcast S3x4096x1 (Scalar.ofBits .f32 0x3B124925#32))) (broadcast S3x4096x1 (Scalar.ofBits .f32 0x00800000#32)))
          (cmpf .olt (mulf v4 (broadcast S3x4096x1 (Scalar.ofBits .f32 0x3B124925#32))) (broadcast S3x4096x1 (Scalar.ofBits .f32 0x7F800000#32))))
        (fptosi 32 (addf (floor (divf (log (mulf v4 (broadcast S3x4096x1 (Scalar.ofBits .f32 0x3B124925#32))))
          (broadcast S3x4096x1 (Scalar.log (Scalar.ofBits .f32 0x40000000#32))))) (broadcast S3x4096x1 (Scalar.ofBits .f32 0x3F800000#32))))
        (broadcast S3x4096x1 0#32)) j = expLog (v4 j) := by
  unfold expLog recip
  pointwise []
  rfl

/-- The exponent of a row. -/
theorem exp_apply (x0 : Vec Ideal S3x4096x8320 .bf16) (b : Fin 3) (s : Fin 4096) :
    k0_pay4 x0 (ix3 b s 0) = expLog (amax fun k => x0 (ix3 b s k)) := by
  rw [← rowMax_apply, ← exp_of_rowMax]
  rfl

/-- The scale of a row. -/
theorem scale_apply (x0 : Vec Ideal S3x4096x8320 .bf16) (b : Fin 3) (s : Fin 4096) :
    k0_pay5 x0 (ix3 b s 0) = scaleExp2 (expLog (amax fun k => x0 (ix3 b s k))) := by
  pointwise [k0_pay5]
  rw [exp_apply]
  rfl

/-- The code at row `s` of batch `b`, column `k`. -/
theorem code_apply (x0 : Vec Ideal S3x4096x8320 .bf16) (b : Fin 3) (s : Fin 4096) (k : Fin 8320) :
    k0_pay1 (k0_pay3 x0) (k0_pay6 x0) (k0_pay7 x0) (k0_pay8 x0) (ix3 b s k)
      = min (Ideal.ofBits .f32 0x43E00000#32) (max (Ideal.ofBits .f32 0xC3E00000#32)
          (x0 (ix3 b s k) * scaleExp2 (IntOp.subi 0#32 (expLog (amax fun k => x0 (ix3 b s k)))))) := by
  pointwise [k0_pay1, k0_pay3, k0_pay6, k0_pay7, k0_pay8]
  rw [exp_apply]
  rfl

/-- The results from the codes, scales and arguments. -/
theorem result_apply (v1 : FVec Ideal S3x4096x8320 .f32) (v35 : FVec Ideal S3x4096x1 .f32) (v37 : IVec S3x4096x1 32)
    (v39 : FVec Ideal S3x4096x1 .f32) (v41 : IVec S3x4096x1 1) (v55 : Vec Ideal S1024x8320 .fp8e4m3) (v59 v63 : Vec Ideal S1024 .f32)
    (b : Fin 3) (s : Fin 4096) (n : Fin 1024) :
    k0_pay2 v1 v35 v37 v39 v41 v55 v59 v63 (ix3 b s n)
      = (∑ k : Fin 8320, k0_pay1 v1 v37 v39 v41 (ix3 b s k) * v55 (ix2 n k)) * v35 (ix3 b s 0) * v59 (ix1 n) + v63 (ix1 n) := by
  pointwise [k0_pay2]

/-- The array of scales. -/
theorem G6_apply (a0 : Vec Ideal S3x4096x8320 .bf16) (a1 : Vec Ideal S1024x8320 .fp8e4m3) (a2 a3 : Vec Ideal S1024 .f32) (b : Fin 3) (s : Fin 4096) :
    G6 a0 a1 a2 a3 (ix3 b s 0) = scaleExp2 (expLog (amax fun k => a0 (ix3 b s k))) := by
  unfold G6 k0_pay10
  rw [View.ld_unit_zero (S := S3x4096x8320) hz0 _ a0, scale_apply]

/-- The array of codes. -/
theorem G5_apply (a0 : Vec Ideal S3x4096x8320 .bf16) (a1 : Vec Ideal S1024x8320 .fp8e4m3) (a2 a3 : Vec Ideal S1024 .f32) (b : Fin 3) (s : Fin 4096) (k : Fin 8320) :
    G5 a0 a1 a2 a3 (ix3 b s k)
      = min (Ideal.ofBits .f32 0x43E00000#32) (max (Ideal.ofBits .f32 0xC3E00000#32)
          (a0 (ix3 b s k) * scaleExp2 (IntOp.subi 0#32 (expLog (amax fun k => a0 (ix3 b s k)))))) := by
  unfold G5 k0_pay9 k0_pay11 k0_pay12 k0_pay13
  rw [View.ld_unit_zero (S := S3x4096x8320) hz0 _ a0, code_apply]

/-- The array of results. -/
theorem G4_apply (a0 : Vec Ideal S3x4096x8320 .bf16) (a1 : Vec Ideal S1024x8320 .fp8e4m3) (a2 a3 : Vec Ideal S1024 .f32) (b : Fin 3) (s : Fin 4096) (n : Fin 1024) :
    G4 a0 a1 a2 a3 (ix3 b s n)
      = (∑ k : Fin 8320, min (Ideal.ofBits .f32 0x43E00000#32) (max (Ideal.ofBits .f32 0xC3E00000#32)
          (a0 (ix3 b s k) * scaleExp2 (IntOp.subi 0#32 (expLog (amax fun k => a0 (ix3 b s k)))))) * a1 (ix2 n k))
        * scaleExp2 (expLog (amax fun k => a0 (ix3 b s k))) * a2 (ix1 n) + a3 (ix1 n) := by
  unfold G4 k0_pay9 k0_pay10 k0_pay11 k0_pay12 k0_pay13
  rw [View.ld_unit_zero (S := S3x4096x8320) hz0 _ a0, result_apply, scale_apply]
  simp only [code_apply]

end Cert.ReferenceIdeal.Closed

end
-- ==== Proof.Arrays.lean ====
/-
  The kernel's three result arrays over the extended reals are the reference's.

  Grid point `t` works on batch `t / 16` and rows `256 · (t % 16)` to `256 · (t % 16) + 255`. What it writes back is that
  block of the reference's array (`flushed4_eq`, `flushed5_eq`, `flushed6_eq`), and the 48 blocks cover each array.
-/
module

public import proofs.«01_k».proof.Proof.Gen.KernelIdeal.Value
public import proofs.«01_k».proof.Proof.KernelBlock
public import proofs.«01_k».proof.Proof.RefRead
public import Idealize.ShloMosaic.Lib.Tactic

@[expose] public section

set_option maxRecDepth 16384

noncomputable section

namespace Cert.KernelIdeal.Arrays

open Cert.KernelIdeal Cert.KernelIdeal.Gen Cert.KernelIdeal.Block Cert.Rows Idealize.ShloMosaic Idealize.ShloMosaic.TcCoe Idealize.SL.Sem
open Idealize.ShloMosaic.Pipeline (Dat)

variable (m : (ℓ : Loc nD τ sig) → Buf (Elt Ideal) ℓ)

/-! ## The arguments as the region finds them -/

/-- The weight scales with a unit axis in front. -/
theorem V_v0 (c : Dev nD) : V m c main_v0
    = shapeCast S1x1024 (m ((c : Thread nD τ).loc main_arg2) : Vec Ideal S1024 .f32) shapeCasts_S1024_S1x1024 := by
  show StableHlo.after hostOps0 (fun b => m (c, b)) (Proc.devRef .tc main_v0) = _
  unfold hostOps0
  after_results
  rfl

/-- The bias with a unit axis in front. -/
theorem V_v1 (c : Dev nD) : V m c main_v1
    = shapeCast S1x1024 (m ((c : Thread nD τ).loc main_arg3) : Vec Ideal S1024 .f32) shapeCasts_S1024_S1x1024 := by
  show StableHlo.after hostOps0 (fun b => m (c, b)) (Proc.devRef .tc main_v1) = _
  unfold hostOps0
  after_results
  rfl

/-- A unit axis added in front, read at an index. -/
theorem row_apply (v : Vec Ideal S1024 .f32) (n : Fin 1024) :
    shapeCast S1x1024 v shapeCasts_S1024_S1x1024 (ix2 0 n) = v (ix1 n) := by
  pointwise []

/-! ## Where the blocks lie -/

/-- Point `t`'s batch. -/
abbrev bat (t : Fin cfg0.N) : Fin 3 := ⟨t.val / 16, by have : cfg0.N = 48 := N_0; have := t.isLt; omega⟩

/-- Row `r` of point `t`'s block in the array. -/
abbrev row (t : Fin cfg0.N) (r : Fin 256) : Fin 4096 := ⟨t.val % 16 * 256 + r.val, by have := r.isLt; omega⟩

theorem idx0 : ∀ t : Fin cfg0.N, win0_0.index t (0 : Fin 3) = t.val / 16 ∧ win0_0.index t (1 : Fin 3) = t.val % 16 ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 3) = t.val / 16 ∧ win0_4.index t (1 : Fin 3) = t.val % 16 ∧ win0_4.index t (2 : Fin 3) = 0 :=
  (by decide +kernel : ∀ t : Fin grid0.N, _)
theorem idx5 : ∀ t : Fin cfg0.N, win0_5.index t (0 : Fin 3) = t.val / 16 ∧ win0_5.index t (1 : Fin 3) = t.val % 16 ∧ win0_5.index t (2 : Fin 3) = 0 :=
  (by decide +kernel : ∀ t : Fin grid0.N, _)
theorem idx6 : ∀ t : Fin cfg0.N, win0_6.index t (0 : Fin 3) = t.val / 16 ∧ win0_6.index t (1 : Fin 3) = t.val % 16 ∧ win0_6.index t (2 : Fin 3) = 0 :=
  (by decide +kernel : ∀ t : Fin grid0.N, _)

theorem emb0 (t : Fin cfg0.N) (r : Fin 256) (k : Fin 8320) :
    ((cfg0.win 0).blk t).view.emb (ix3 0 r k : S1x256x8320.Idx) = (ix3 (bat t) (row t r) k : S3x4096x8320.Idx) := by
  obtain ⟨e0, e1, e2⟩ := idx0 t
  funext a; apply Fin.ext
  match a with
  | ⟨0, _⟩ => show win0_0.index t (0 : Fin 3) * 1 + 1 * 0 = t.val / 16; omega
  | ⟨1, _⟩ => show win0_0.index t (1 : Fin 3) * 256 + 1 * r.val = t.val % 16 * 256 + r.val; omega
  | ⟨2, _⟩ => show win0_0.index t (2 : Fin 3) * 8320 + 1 * k.val = k.val; omega
theorem emb1 (t : Fin cfg0.N) (j : S1024x8320.Idx) : ((cfg0.win 1).blk t).view.emb j = j := by
  obtain ⟨e0, e1⟩ := idx1 t
  funext a; apply Fin.ext
  match a with
  | ⟨0, _⟩ => show win0_1.index t (0 : Fin 2) * 1024 + 1 * (j 0).val = (j 0).val; omega
  | ⟨1, _⟩ => show win0_1.index t (1 : Fin 2) * 8320 + 1 * (j 1).val = (j 1).val; omega
theorem emb2 (t : Fin cfg0.N) (j : S1x1024.Idx) : ((cfg0.win 2).blk t).view.emb j = j := by
  obtain ⟨e0, e1⟩ := idx2 t
  funext a; apply Fin.ext
  match a with
  | ⟨0, _⟩ => show win0_2.index t (0 : Fin 2) * 1 + 1 * (j 0).val = (j 0).val; omega
  | ⟨1, _⟩ => show win0_2.index t (1 : Fin 2) * 1024 + 1 * (j 1).val = (j 1).val; omega
theorem emb3 (t : Fin cfg0.N) (j : S1x1024.Idx) : ((cfg0.win 3).blk t).view.emb j = j := by
  obtain ⟨e0, e1⟩ := idx3 t
  funext a; apply Fin.ext
  match a with
  | ⟨0, _⟩ => show win0_3.index t (0 : Fin 2) * 1 + 1 * (j 0).val = (j 0).val; omega
  | ⟨1, _⟩ => show win0_3.index t (1 : Fin 2) * 1024 + 1 * (j 1).val = (j 1).val; omega
theorem emb4 (t : Fin cfg0.N) (r : Fin 256) (k : Fin 1024) :
    ((cfg0.win 4).blk t).view.emb (ix3 0 r k : S1x256x1024.Idx) = (ix3 (bat t) (row t r) k : S3x4096x1024.Idx) := by
  obtain ⟨e0, e1, e2⟩ := idx4 t
  funext a; apply Fin.ext
  match a with
  | ⟨0, _⟩ => show win0_4.index t (0 : Fin 3) * 1 + 1 * 0 = t.val / 16; omega
  | ⟨1, _⟩ => show win0_4.index t (1 : Fin 3) * 256 + 1 * r.val = t.val % 16 * 256 + r.val; omega
  | ⟨2, _⟩ => show win0_4.index t (2 : Fin 3) * 1024 + 1 * k.val = k.val; omega
theorem emb5 (t : Fin cfg0.N) (r : Fin 256) (k : Fin 8320) :
    ((cfg0.win 5).blk t).view.emb (ix3 0 r k : S1x256x8320.Idx) = (ix3 (bat t) (row t r) k : S3x4096x8320.Idx) := by
  obtain ⟨e0, e1, e2⟩ := idx5 t
  funext a; apply Fin.ext
  match a with
  | ⟨0, _⟩ => show win0_5.index t (0 : Fin 3) * 1 + 1 * 0 = t.val / 16; omega
  | ⟨1, _⟩ => show win0_5.index t (1 : Fin 3) * 256 + 1 * r.val = t.val % 16 * 256 + r.val; omega
  | ⟨2, _⟩ => show win0_5.index t (2 : Fin 3) * 8320 + 1 * k.val = k.val; omega
theorem emb6 (t : Fin cfg0.N) (r : Fin 256) :
    ((cfg0.win 6).blk t).view.emb (ix3 0 r 0 : S1x256x1.Idx) = (ix3 (bat t) (row t r) 0 : S3x4096x1.Idx) := by
  obtain ⟨e0, e1, e2⟩ := idx6 t
  funext a; apply Fin.ext
  match a with
  | ⟨0, _⟩ => show win0_6.index t (0 : Fin 3) * 1 + 1 * 0 = t.val / 16; omega
  | ⟨1, _⟩ => show win0_6.index t (1 : Fin 3) * 256 + 1 * r.val = t.val % 16 * 256 + r.val; omega
  | ⟨2, _⟩ => show win0_6.index t (2 : Fin 3) * 1 + 1 * 0 = 0; omega

/-! ## What the input blocks hold -/

/-- The arguments, by the shapes they have. -/
abbrev A0 (c : Dev nD) : Vec Ideal S3x4096x8320 .bf16 := m ((c : Thread nD τ).loc main_arg0)
abbrev A1 (c : Dev nD) : Vec Ideal S1024x8320 .fp8e4m3 := m ((c : Thread nD τ).loc main_arg1)
abbrev A2 (c : Dev nD) : Vec Ideal S1024 .f32 := m ((c : Thread nD τ).loc main_arg2)
abbrev A3 (c : Dev nD) : Vec Ideal S1024 .f32 := m ((c : Thread nD τ).loc main_arg3)

theorem blk0 (c : Dev nD) (t : Fin cfg0.N) (r : Fin 256) (k : Fin 8320) :
    (iblk m c 0 t : Vec Ideal S1x256x8320 .bf16) (ix3 0 r k) = A0 m c (ix3 (bat t) (row t r) k) := by
  show V m c main_arg0 (((cfg0.win 0).blk t).view.emb (ix3 0 r k : S1x256x8320.Idx)) = _
  rw [emb0, V_main_arg0]
theorem blk1 (c : Dev nD) (t : Fin cfg0.N) (j : S1024x8320.Idx) :
    (iblk m c 1 t : Vec Ideal S1024x8320 .fp8e4m3) j = A1 m c j := by
  show V m c main_arg1 (((cfg0.win 1).blk t).view.emb j) = _
  rw [emb1, V_main_arg1]
theorem blk2 (c : Dev nD) (t : Fin cfg0.N) (n : Fin 1024) :
    (iblk m c 2 t : Vec Ideal S1x1024 .f32) (ix2 0 n) = A2 m c (ix1 n) := by
  show V m c main_v0 (((cfg0.win 2).blk t).view.emb (ix2 0 n : S1x1024.Idx)) = _
  rw [emb2, V_v0]
  exact row_apply _ n
theorem blk3 (c : Dev nD) (t : Fin cfg0.N) (n : Fin 1024) :
    (iblk m c 3 t : Vec Ideal S1x1024 .f32) (ix2 0 n) = A3 m c (ix1 n) := by
  show V m c main_v1 (((cfg0.win 3).blk t).view.emb (ix2 0 n : S1x1024.Idx)) = _
  rw [emb3, V_v1]
  exact row_apply _ n

/-! ## What a point writes back is the reference's block -/

/-- The reference's arrays. -/
abbrev R4 (c : Dev nD) : Vec Ideal S3x4096x1024 .bf16 := Cert.ReferenceIdeal.Closed.G4 (A0 m c) (A1 m c) (A2 m c) (A3 m c)
abbrev R5 (c : Dev nD) : Vec Ideal S3x4096x8320 .fp8e4m3 := Cert.ReferenceIdeal.Closed.G5 (A0 m c) (A1 m c) (A2 m c) (A3 m c)
abbrev R6 (c : Dev nD) : Vec Ideal S3x4096x1 .f32 := Cert.ReferenceIdeal.Closed.G6 (A0 m c) (A1 m c) (A2 m c) (A3 m c)

/-- The scale a point writes for a row is the reference's. -/
theorem val6 (c : Dev nD) (t : Fin cfg0.N) (r : Fin 256) :
    out0_6 (F := Ideal) (iblk m c 0 t) (iblk m c 1 t) (iblk m c 2 t) (iblk m c 3 t) (ix3 0 r 0) = R6 m c (ix3 (bat t) (row t r) 0) := by
  rw [out6_apply]
  refine Eq.trans ?_ (Cert.ReferenceIdeal.Closed.G6_apply _ _ _ _ _ _).symm
  simp only [blk0]
  rw [scale_eq _ (amax_nonneg _)]

/-- An index of a block of scales. -/
theorem idx_scale (j : S1x256x1.Idx) : ∃ r : Fin 256, j = ix3 0 r 0 :=
  ⟨j 1, by rw [eq_ix3 j]; congr 1 <;> exact Subsingleton.elim (α := Fin 1) _ _⟩

/-- A block of scales that agrees row by row with an array is the array's block. -/
theorem cut6_of (t : Fin cfg0.N) (X : Vec Ideal S1x256x1 .f32) (Y : Vec Ideal S3x4096x1 .f32)
    (h : ∀ r : Fin 256, X (ix3 0 r 0) = Y (ix3 (bat t) (row t r) 0)) :
    (cfg0.win 6).cut (grid0.coords t) X = ((cfg0.win 6).blk t).view.read (Elt Ideal) Y := by
  have g : ∀ j : S1x256x1.Idx, X j = Y (((cfg0.win 6).blk t).view.emb j) := by
    intro j
    obtain ⟨r, rfl⟩ := idx_scale j
    rw [emb6, h]
  funext j
  exact g j

theorem flushed6_eq (c : Dev nD) (t : Fin cfg0.N) :
    (dats m 0 c).flushed 6 t = ((cfg0.win 6).blk t).view.read (Elt Ideal) (R6 m c) := by
  show (cfg0.win 6).cut (grid0.coords t) ((dats m 0 c).after 6 t) = _
  rw [after0_6]
  exact cut6_of t _ _ (val6 m c t)

theorem flushed5_eq (c : Dev nD) (t : Fin cfg0.N) :
    (dats m 0 c).flushed 5 t = ((cfg0.win 5).blk t).view.read (Elt Ideal) (R5 m c) := by
  show (cfg0.win 5).cut (grid0.coords t) ((dats m 0 c).after 5 t) = _
  rw [after0_5]
  funext j
  obtain ⟨r, k, rfl⟩ : ∃ (r : Fin 256) (k : Fin 8320), j = (ix3 0 r k : S1x256x8320.Idx) :=
    ⟨j 1, j 2, by rw [eq_ix3 (show S1x256x8320.Idx from j)]; congr 1; exact Subsingleton.elim (α := Fin 1) _ _⟩
  show out0_5 (iblk m c 0 t) (iblk m c 1 t) (iblk m c 2 t) (iblk m c 3 t) (ix3 0 r k) = R5 m c (((cfg0.win 5).blk t).view.emb (ix3 0 r k : S1x256x8320.Idx))
  rw [emb5, out5_apply]
  refine Eq.trans ?_ (Cert.ReferenceIdeal.Closed.G5_apply _ _ _ _ _ _ _).symm
  simp only [blk0]
  rw [invScale_eq _ (amax_nonneg _)]

theorem flushed4_eq (c : Dev nD) (t : Fin cfg0.N) :
    (dats m 0 c).flushed 4 t = ((cfg0.win 4).blk t).view.read (Elt Ideal) (R4 m c) := by
  show (cfg0.win 4).cut (grid0.coords t) ((dats m 0 c).after 4 t) = _
  rw [after0_4]
  funext j
  obtain ⟨r, n, rfl⟩ : ∃ (r : Fin 256) (n : Fin 1024), j = (ix3 0 r n : S1x256x1024.Idx) :=
    ⟨j 1, j 2, by rw [eq_ix3 (show S1x256x1024.Idx from j)]; congr 1; exact Subsingleton.elim (α := Fin 1) _ _⟩
  show out0_4 (iblk m c 0 t) (iblk m c 1 t) (iblk m c 2 t) (iblk m c 3 t) (ix3 0 r n) = R4 m c (((cfg0.win 4).blk t).view.emb (ix3 0 r n : S1x256x1024.Idx))
  rw [emb4, out4_apply]
  refine Eq.trans ?_ (Cert.ReferenceIdeal.Closed.G4_apply _ _ _ _ _ _ _).symm
  simp only [blk0, blk1, blk2, blk3]
  rw [invScale_eq _ (amax_nonneg _), scale_eq _ (amax_nonneg _)]

/-! ## The blocks cover the arrays -/

/-- The point that works on row `s` of batch `b`. -/
abbrev pt (b : Fin 3) (s : Fin 4096) : Fin cfg0.N := ⟨b.val * 16 + s.val / 256, by have : cfg0.N = 48 := N_0; have := b.isLt; have := s.isLt; omega⟩

theorem bat_pt (b : Fin 3) (s : Fin 4096) : bat (pt b s) = b := Fin.ext (by show (b.val * 16 + s.val / 256) / 16 = b.val; have := s.isLt; omega)
theorem row_pt (b : Fin 3) (s : Fin 4096) : row (pt b s) ⟨s.val % 256, by omega⟩ = s :=
  Fin.ext (by show (b.val * 16 + s.val / 256) % 16 * 256 + s.val % 256 = s.val; have := s.isLt; omega)

theorem covered4 (i : S3x4096x1024.Idx) : ∃ t : Fin cfg0.N, (cfg0.win 4).flush t = true ∧ i ∈ ((cfg0.win 4).blk t).view.set := by
  obtain ⟨b, s, n, rfl⟩ : ∃ (b : Fin 3) (s : Fin 4096) (n : Fin 1024), i = ix3 b s n := ⟨i 0, i 1, i 2, eq_ix3 i⟩
  refine ⟨pt b s, flush0_4 _, ?_⟩
  have h := ((cfg0.win 4).blk (pt b s)).view.emb_mem_set (ix3 0 ⟨s.val % 256, by omega⟩ n : S1x256x1024.Idx)
  rw [emb4 (pt b s) ⟨s.val % 256, by omega⟩ n, bat_pt, row_pt] at h
  exact h

theorem covered5 (i : S3x4096x8320.Idx) : ∃ t : Fin cfg0.N, (cfg0.win 5).flush t = true ∧ i ∈ ((cfg0.win 5).blk t).view.set := by
  obtain ⟨b, s, n, rfl⟩ : ∃ (b : Fin 3) (s : Fin 4096) (n : Fin 8320), i = ix3 b s n := ⟨i 0, i 1, i 2, eq_ix3 i⟩
  refine ⟨pt b s, flush0_5 _, ?_⟩
  have h := ((cfg0.win 5).blk (pt b s)).view.emb_mem_set (ix3 0 ⟨s.val % 256, by omega⟩ n : S1x256x8320.Idx)
  rw [emb5 (pt b s) ⟨s.val % 256, by omega⟩ n, bat_pt, row_pt] at h
  exact h

theorem covered6 (i : S3x4096x1.Idx) : ∃ t : Fin cfg0.N, (cfg0.win 6).flush t = true ∧ i ∈ ((cfg0.win 6).blk t).view.set := by
  obtain ⟨b, s, rfl⟩ : ∃ (b : Fin 3) (s : Fin 4096), i = ix3 b s 0 :=
    ⟨i 0, i 1, by rw [eq_ix3 i]; congr 1; exact Subsingleton.elim (α := Fin 1) _ _⟩
  refine ⟨pt b s, flush0_6 _, ?_⟩
  have h := ((cfg0.win 6).blk (pt b s)).view.emb_mem_set (ix3 0 ⟨s.val % 256, by omega⟩ 0 : S1x256x1.Idx)
  rw [emb6 (pt b s) ⟨s.val % 256, by omega⟩, bat_pt, row_pt] at h
  exact h

/-! ## The arrays after the run -/

theorem final4 (c : Dev nD) : (dats m 0 c).arrAt 4 cfg0.N = R4 m c :=
  (dats m 0 c).arrAt_eq_of_cover 4 (R4 m c) (fun t _ => flushed4_eq m c t) covered4
theorem final5 (c : Dev nD) : (dats m 0 c).arrAt 5 cfg0.N = R5 m c :=
  (dats m 0 c).arrAt_eq_of_cover 5 (R5 m c) (fun t _ => flushed5_eq m c t) covered5
theorem final6 (c : Dev nD) : (dats m 0 c).arrAt 6 cfg0.N = R6 m c :=
  (dats m 0 c).arrAt_eq_of_cover 6 (R6 m c) (fun t _ => flushed6_eq m c t) covered6

variable (ρ : Dev nD → PrngReg)

/-- The kernel's run: each result array is the reference's of the arguments, the arguments unchanged. -/
theorem run : θ_run defs (onTc (τ := τ) (main (F := Ideal))) ⟨m, fun _ => 0, ρ⟩ fun r => ∀ c : Dev nD,
      r.2.mem ((c : Thread nD τ).loc main_v2_0) = R4 m c
      ∧ r.2.mem ((c : Thread nD τ).loc main_v2_1) = R5 m c
      ∧ r.2.mem ((c : Thread nD τ).loc main_v2_2) = R6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c),
      (h c).2.2.1.trans (final6 m c), (h c).2.2.2⟩) (Cert.KernelIdeal.Value.run_blocks m ρ)

end Cert.KernelIdeal.Arrays

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Arrays
public import Idealize.ShloMosaic.Adequacy
public import Idealize.ShloMosaic.Init

@[expose] public section

noncomputable section

namespace Cert.Proof

open Idealize.ShloMosaic Idealize.SL.Sem Cert.Kernel

/-- The kernel and the reference, launched at the same arguments, end at the same three arrays. -/
theorem algebraic : Cert.algebraic_KernelIdeal_ReferenceIdeal := by
  intro m g m' g' _ hagree
  refine ⟨fun c => Cert.KernelIdeal.Arrays.R4 m c, fun c => Cert.KernelIdeal.Arrays.R5 m c,
    fun c => Cert.KernelIdeal.Arrays.R6 m c, Cert.KernelIdeal.Arrays.run m g, ?_⟩
  refine (θ_run _ _ _).mono (fun r h c => ?_) (Cert.ReferenceIdeal.Closed.run m' g')
  obtain ⟨h0, h1, h2, h3⟩ := hagree c
  obtain ⟨y, q, s, k⟩ := h c
  rw [h0, h1, h2, h3] at y q s
  exact ⟨y, q, s, k⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
